-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S256x256 : Shape := ⟨2, ![256, 256]⟩
abbrev S1x256 : Shape := ⟨2, ![1, 256]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let c0 : Index := 0#32
  let arg1 : BitVec 32 := BitVec.ofNat 32 (i 1).val
  let c256_i32 : BitVec 32 := 256#32
  let v0 : BitVec 32 := Scalar.muli arg1 c256_i32
  let v1 : Index := Scalar.indexCast v0
  ![0, v1.toNat]
def k0_off2 (i : grid0.Coords) : Fin 2 → Nat :=
  let c0_5 : Index := 0#32
  let arg1 : BitVec 32 := BitVec.ofNat 32 (i 1).val
  let c1_i32 : BitVec 32 := 1#32
  let v4 : BitVec 32 := Scalar.addi arg1 c1_i32
  let c8_i32 : BitVec 32 := 8#32
  let c0_i32 : BitVec 32 := 0#32
  let v5 : BitVec 1 := Scalar.cmpi .eq c8_i32 c0_i32
  let c1_i32_0 : BitVec 32 := 1#32
  let v6 : BitVec 32 := Scalar.select v5 c1_i32_0 c8_i32
  let v7 : BitVec 32 := Scalar.remsi v4 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let c256_i32_4 : BitVec 32 := 256#32
  let v15 : BitVec 32 := Scalar.muli v14 c256_i32_4
  let v16 : Index := Scalar.indexCast v15
  ![0, v16.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![v10.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .i32⟩
  | .hbm, ⟨4, _⟩ => ⟨S2048x1, .i32⟩
  | .hbm, ⟨5, _⟩ => ⟨S2048, .i32⟩
  | .hbm, ⟨6, _⟩ => ⟨S1x2048, .i32⟩
  | .hbm, ⟨7, _⟩ => ⟨S_, .i32⟩
  | .hbm, ⟨8, _⟩ => ⟨S1x2048, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i32⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S2048x2048, .i1⟩
  | .hbm, ⟨32, _⟩ => ⟨S2048x2048, .i32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i1⟩
  | .hbm, ⟨38, _⟩ => ⟨S2048x2048, .f32⟩
  | .hbm, ⟨39, _⟩ => ⟨S2048x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩

abbrev nD : Nat := 1
abbrev τ : Topo := Topo.v7x

variable {F : FTy → Type} [FloatOps F]
-- ==== Proof.Band.lean ====
/-
  The mathematics of the cyclic band, with no program in it. Output unit `j` of the layer is connected to the 256 inputs
  `j, j + 1, …, j + 255`, counted modulo 2048. This file defines the layer over the extended reals as the masked product
  that the problem states, and shows that the masked sum over all 2048 inputs is the sum over the two blocks of 256 inputs
  that the band of a unit meets: the lower triangle of its own block and the upper triangle of the next one, cyclically.
-/
module

public import Idealize.ShloMosaic.Lib.ValueIdxCore
public import Mathlib.Data.EReal.Operations
public import Mathlib.Algebra.BigOperators.Fin
public import Mathlib.Logic.Equiv.Fin.Basic

@[expose] public section

noncomputable section

namespace Cert.Band

open Idealize.ShloMosaic Idealize.ShloMosaic.ValueIdx
open scoped BigOperators

/-- Input `k` is one of the 256 inputs of output unit `j`: `(k - j) mod 2048 < 256`, written without a negative number. -/
abbrev Connected (k j : ℕ) : Prop := (k + 2048 - j) % 2048 < 256

/-- The layer: the product of the inputs with the weights, every weight outside the band multiplied by zero, and the bias
    of the output unit added. -/
def layer (x : (⟨2, ![4096, 2048]⟩ : Shape).Idx → EReal) (w : (⟨2, ![2048, 2048]⟩ : Shape).Idx → EReal)
    (b : (⟨1, ![2048]⟩ : Shape).Idx → EReal) (i : (⟨2, ![4096, 2048]⟩ : Shape).Idx) : EReal :=
  (∑ k : Fin 2048, x (ix2 (i 0) k) * (w (ix2 k (i 1)) * (if Connected k.val (i 1).val then 1 else 0))) + b (ix1 (i 1))

/-- Position `p` of block `K`, of the eight blocks of 256 into which 2048 positions fall. -/
abbrev pos (K : Fin 8) (p : Fin 256) : Fin 2048 := ⟨K.val * 256 + p.val, by omega⟩

/-- The block after block `J`, the last one being followed by the first. -/
abbrev next (J : Fin 8) : Fin 8 := ⟨(J.val + 1) % 8, Nat.mod_lt _ (by decide)⟩

/-- A sum over 2048 positions is the sum, over the eight blocks, of the sums over the 256 positions of a block. -/
theorem sum_blocks (f : Fin 2048 → EReal) : ∑ k, f k = ∑ K : Fin 8, ∑ p : Fin 256, f (pos K p) := by
  rw [← Equiv.sum_comp (finProdFinEquiv (m := 8) (n := 256)) f, Fintype.sum_prod_type]
  refine Finset.sum_congr rfl fun K _ => Finset.sum_congr rfl fun p _ => congrArg f (Fin.ext ?_)
  show p.val + 256 * K.val = K.val * 256 + p.val
  omega

/-- In a unit's own block, the band holds the positions from the unit's on. -/
theorem connected_own (J : Fin 8) (q p : Fin 256) : Connected (pos J p).val (pos J q).val ↔ q.val ≤ p.val := by
  show (J.val * 256 + p.val + 2048 - (J.val * 256 + q.val)) % 2048 < 256 ↔ _
  omega

/-- In the next block, the band holds the positions before the unit's. -/
theorem connected_next (J : Fin 8) (q p : Fin 256) : Connected (pos (next J) p).val (pos J q).val ↔ p.val < q.val := by
  show ((J.val + 1) % 8 * 256 + p.val + 2048 - (J.val * 256 + q.val)) % 2048 < 256 ↔ _
  omega

/-- The band meets no other block. -/
theorem not_connected (J K : Fin 8) (h : K ≠ J) (h' : K ≠ next J) (q p : Fin 256) :
    ¬Connected (pos K p).val (pos J q).val := by
  have h1 : K.val ≠ J.val := fun e => h (Fin.ext e)
  have h2 : K.val ≠ (J.val + 1) % 8 := fun e => h' (Fin.ext e)
  show ¬(K.val * 256 + p.val + 2048 - (J.val * 256 + q.val)) % 2048 < 256
  omega

/-- THE BAND AS TWO TRIANGLES. The masked sum of a unit over all its 2048 inputs is the sum over its own block with the
    weights above the diagonal put to zero, and the sum over the next block with those on and below it put to zero. -/
theorem masked_sum (x w : Fin 2048 → EReal) (J : Fin 8) (q : Fin 256) :
    ∑ k : Fin 2048, x k * (w k * (if Connected k.val (pos J q).val then 1 else 0))
      = (∑ p : Fin 256, x (pos J p) * (if q.val ≤ p.val then w (pos J p) else 0))
        + ∑ p : Fin 256, x (pos (next J) p) * (if p.val < q.val then w (pos (next J) p) else 0) := by
  have hne : J ≠ next J := fun e => by have := congrArg Fin.val e; simp only at this; omega
  rw [sum_blocks, Finset.sum_eq_add J (next J) hne ?_ (fun h => absurd (Finset.mem_univ _) h) fun h => absurd (Finset.mem_univ _) h]
  · congr 1 <;> refine Finset.sum_congr rfl fun p _ => ?_
    · simp only [mul_ite, mul_one, mul_zero]
      exact if_congr (connected_own J q p) rfl rfl
    · simp only [mul_ite, mul_one, mul_zero]
      exact if_congr (connected_next J q p) rfl rfl
  · rintro K - ⟨h, h'⟩
    exact Finset.sum_eq_zero fun p _ => by rw [if_neg (not_connected J K h h' q p), mul_zero, mul_zero]

end Cert.Band

end
-- ==== Proof.Block.lean ====
/-
  What one block computes: the tile the kernel stores at a grid point, as a function of the two chunks of inputs, the two
  tiles of weights and the row of biases it loads. At row `r` and column `q` it is the sum over the first chunk with the
  weights above the diagonal put to zero, plus the sum over the second chunk with the weights on and below it put to
  zero, plus the bias of the column.
-/
module

public import proofs.«01_k».proof.Proof.Gen.KernelIdeal.Frame
public import Idealize.ShloMosaic.Lib.Pipeline.ValueKit

@[expose] public section

set_option maxRecDepth 16384

noncomputable section

namespace Cert.Block

open Idealize.ShloMosaic Cert.KernelIdeal Cert.KernelIdeal.Gen
open scoped BigOperators

/-- A position of a block, as a signed 32-bit number, is itself. -/
theorem count_toInt (p : Fin 256) : (BitVec.ofNat 32 p.val).toInt = (p.val : ℤ) := by
  rw [BitVec.toInt_eq_toNat_cond, BitVec.toNat_ofNat]
  split <;> omega

/-- The first comparison of the kernel holds where the row is at or after the column. -/
theorem at_or_below (p q : Fin 256) :
    IntOp.cmpi CmpIPredicate.sge (BitVec.ofNat 32 p.val) (BitVec.ofNat 32 q.val) = if q.val ≤ p.val then 1#1 else 0#1 := by
  simp only [IntOp.cmpi, BitVec.sle, count_toInt, Nat.cast_le]
  by_cases h : q.val ≤ p.val <;> simp [h]

/-- The second comparison of the kernel holds where the row is before the column. -/
theorem above (p q : Fin 256) :
    IntOp.cmpi CmpIPredicate.slt (BitVec.ofNat 32 p.val) (BitVec.ofNat 32 q.val) = if p.val < q.val then 1#1 else 0#1 := by
  simp only [IntOp.cmpi, BitVec.slt, count_toInt, Nat.cast_lt]
  by_cases h : p.val < q.val <;> simp [h]

/-- The stored tile at row `r` and column `q`. -/
theorem tile_apply (a b : FVec Ideal S512x256 .f32) (w0 w1 : FVec Ideal S256x256 .f32) (d : FVec Ideal S1x256 .f32)
    (r : Fin 512) (q : Fin 256) :
    k0_pay1 (k0_pay2 a b w0 w1) (k0_pay3 d) (ix2 r q)
      = (∑ p : Fin 256, a (ix2 r p) * (if q.val ≤ p.val then w0 (ix2 p q) else 0))
        + (∑ p : Fin 256, b (ix2 r p) * (if p.val < q.val then w1 (ix2 p q) else 0)) + d (ix2 0 q) := by
  pointwise [k0_pay1, k0_pay2, k0_pay3]
  congr 2 <;> refine Finset.sum_congr rfl fun p _ => ?_
  · rw [at_or_below p q]
    split
    · exact ValueIdx.select_one _ _
    · exact (ValueIdx.select_zero _ _).trans (mul_zero _).symm
  · rw [above p q]
    split
    · exact ValueIdx.select_one _ _
    · exact (ValueIdx.select_zero _ _).trans (mul_zero _).symm

end Cert.Block

end
-- ==== Proof.KernelLayer.lean ====
/-
  What the result array of the kernel holds after the run: the layer of Band.lean of the three argument arrays. The grid
  point `t` has two coordinates, the block of 512 rows and the block of 256 units it computes. Each thing the point loads
  is read at its place in the argument arrays, and the tile it stores (Block.lean) is then the layer at the place where
  the tile sits (Band.lean, `masked_sum`). The 64 tiles cover the array.
-/
module

public import proofs.«01_k».proof.Proof.Band
public import proofs.«01_k».proof.Proof.Block
public import proofs.«01_k».proof.Proof.Gen.KernelIdeal.Value
public import Idealize.ShloMosaic.Lib.Pipeline.ValueKit

@[expose] public section

set_option maxRecDepth 16384

noncomputable section

namespace Cert.KernelLayer

open Idealize.ShloMosaic Idealize.ShloMosaic.TcCoe Idealize.SL.Sem Cert.KernelIdeal Cert.KernelIdeal.Gen

variable (m : (ℓ : Loc nD τ sig) → Buf (Elt Ideal) ℓ)

/-! ## Which blocks a grid point uses, decided over the 64 points -/

/-- The inputs: the point's block of rows, all columns. -/
theorem index_0 : ∀ t : Fin cfg0.N, win0_0.index t = ![(grid0.coords t 0).val, 0] :=
  (by decide +kernel : ∀ t : Fin grid0.N, _)

/-- The first tile of weights: the diagonal one of the point's block of units. -/
theorem index_1 : ∀ t : Fin cfg0.N, win0_1.index t = ![(grid0.coords t 1).val, (grid0.coords t 1).val] :=
  (by decide +kernel : ∀ t : Fin grid0.N, _)

/-- The second tile of weights: the one below it, cyclically. -/
theorem index_2 : ∀ t : Fin cfg0.N, win0_2.index t = ![((grid0.coords t 1).val + 1) % 8, (grid0.coords t 1).val] :=
  (by decide +kernel : ∀ t : Fin grid0.N, _)

/-- The biases: those of the point's block of units. -/
theorem index_3 : ∀ t : Fin cfg0.N, win0_3.index t = ![0, (grid0.coords t 1).val] :=
  (by decide +kernel : ∀ t : Fin grid0.N, _)

/-- The result: the point's block of rows and block of units. -/
theorem index_4 : ∀ t : Fin cfg0.N, win0_4.index t = ![(grid0.coords t 0).val, (grid0.coords t 1).val] :=
  (by decide +kernel : ∀ t : Fin grid0.N, _)

/-- The first chunk of inputs starts at the point's block of units. -/
theorem off_1 : ∀ t : Fin cfg0.N, k0_off1 (grid0.coords t) = ![0, (grid0.coords t 1).val * 256] :=
  (by decide +kernel : ∀ t : Fin grid0.N, _)

/-- The second chunk of inputs starts at the next block, cyclically. -/
theorem off_2 : ∀ t : Fin cfg0.N, k0_off2 (grid0.coords t) = ![0, ((grid0.coords t 1).val + 1) % 8 * 256] :=
  (by decide +kernel : ∀ t : Fin grid0.N, _)

/-! ## What a grid point loads, read at its place in the argument arrays -/

/-- The row of the arrays at row `r` of the point's block. -/
abbrev row (t : Fin cfg0.N) (r : Fin 512) : Fin 4096 := ⟨(grid0.coords t 0).val * 512 + r.val, by
  have h : (grid0.coords t 0).val < 8 := (grid0.coords t 0).isLt
  omega⟩

/-- The point's block of units. -/
abbrev units (t : Fin cfg0.N) : Fin 8 := grid0.coords t 1

/-- Where the element at row `r` and column `q` of the stored tile sits in the result array. -/
theorem tile_place (t : Fin cfg0.N) (r : Fin 512) (q : Fin 256) :
    ((View.whole main_v1).slice (win0_4.rect t)).emb (ix2 r q) = ix2 (row t r) (Band.pos (units t) q) := by
  blk_ext [index_4 t]

/-- The first chunk of inputs. -/
theorem input_own (c : Dev nD) (t : Fin cfg0.N) (r : Fin 512) (p : Fin 256) :
    View.ld (iblk m c 0 t) (Rect.unit (s := S512x2048) (k0_off1 (grid0.coords t)) ![512, 256] (k0_off1_inb (grid0.coords t))) (ix2 r p)
      = m ((c : Thread nD τ).loc main_arg0) (ix2 (row t r) (Band.pos (units t) p)) := by
  pointwise
  blk_ext [iblk, V, index_0 t, off_1 t]

/-- The second chunk of inputs. -/
theorem input_next (c : Dev nD) (t : Fin cfg0.N) (r : Fin 512) (p : Fin 256) :
    View.ld (iblk m c 0 t) (Rect.unit (s := S512x2048) (k0_off2 (grid0.coords t)) ![512, 256] (k0_off2_inb (grid0.coords t))) (ix2 r p)
      = m ((c : Thread nD τ).loc main_arg0) (ix2 (row t r) (Band.pos (Band.next (units t)) p)) := by
  pointwise
  blk_ext [iblk, V, index_0 t, off_2 t]

/-- The first tile of weights. -/
theorem weight_own (c : Dev nD) (t : Fin cfg0.N) (p q : Fin 256) :
    iblk m c 1 t (ix2 p q) = m ((c : Thread nD τ).loc main_arg1) (ix2 (Band.pos (units t) p) (Band.pos (units t) q)) := by
  blk_ext [iblk, V, index_1 t]

/-- The second tile of weights. -/
theorem weight_next (c : Dev nD) (t : Fin cfg0.N) (p q : Fin 256) :
    iblk m c 2 t (ix2 p q)
      = m ((c : Thread nD τ).loc main_arg1) (ix2 (Band.pos (Band.next (units t)) p) (Band.pos (units t) q)) := by
  blk_ext [iblk, V, index_2 t]

/-- The biases, through the reshape of the bias vector to one row that comes before the launch. -/
theorem bias (c : Dev nD) (t : Fin cfg0.N) (q : Fin 256) :
    iblk m c 3 t (ix2 0 q) = m ((c : Thread nD τ).loc main_arg2) (ix1 (Band.pos (units t) q)) := by
  blk_simp [iblk]
  entry_read
  pointwise
  blk_ext [index_3 t]

/-! ## The array after the run -/

/-- THE RESULT ARRAY holds the layer of the three arguments. -/
theorem result_eq (c : Dev nD) : (dats m 0 c).arrAt 4 cfg0.N = Band.layer (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  rw [show y = ix2 (y 0) (y 1) from eq_ix2 y]
  refine (Block.tile_apply _ _ _ _ _ _ _).trans (Eq.trans ?_ (congrArg _ (tile_place t (y 0) (y 1)).symm))
  refine Eq.trans ?_ (congrArg (· + m ((c : Thread nD τ).loc main_arg2) (ix1 (Band.pos (units t) (y 1))))
    (Band.masked_sum (fun k => m ((c : Thread nD τ).loc main_arg0) (ix2 (row t (y 0)) k))
      (fun k => m ((c : Thread nD τ).loc main_arg1) (ix2 k (Band.pos (units t) (y 1)))) (units t) (y 1)).symm)
  refine congrArg₂ (· + ·) (congrArg₂ (· + ·) (Finset.sum_congr rfl fun p _ => ?_) (Finset.sum_congr rfl fun p _ => ?_)) ?_
  · exact congrArg₂ (· * ·) (input_own m c t (y 0) p) (if_ctx_congr Iff.rfl (fun _ => weight_own m c t p (y 1)) fun _ => rfl)
  · exact congrArg₂ (· * ·) (input_next m c t (y 0) p) (if_ctx_congr Iff.rfl (fun _ => weight_next m c t p (y 1)) fun _ => rfl)
  · exact bias m c t (y 1)

end Cert.KernelLayer

end
-- ==== Proof.RefLayer.lean ====
/-
  What the reference computes: at every index its result is the layer of Band.lean of its three arguments. Its mask is a
  chain of 32-bit integer operations (a difference of two counts, the remainder by 2048 with the sign of the divisor, a
  comparison with 256); the chain is decided once for each difference from -2048 to 2047 and read off from there.
-/
module

public import proofs.«01_k».proof.Proof.Band
public import proofs.«01_k».proof.Proof.Gen.ReferenceIdeal.Read

@[expose] public section

noncomputable section

namespace Cert.RefLayer

open Idealize.ShloMosaic Idealize.ShloMosaic.ValueIdx Cert.ReferenceIdeal Cert.ReferenceIdeal.Read

/-- The mask's bit from the difference `d` of the two counts: whether the remainder of `d` by 2048 is below 256. The
    truncated remainder is corrected by 2048 where it is negative. -/
def bit (d : BitVec 32) : BitVec 1 :=
  let n := Scalar.select (IntOp.cmpi .eq 2048#32 0#32) 1#32 2048#32
  let r := IntOp.remsi .host d n
  IntOp.cmpi .slt
    (Scalar.select (IntOp.andi (IntOp.cmpi .ne (IntOp.cmpi .slt r 0#32) (IntOp.cmpi .slt n 0#32)) (IntOp.cmpi .ne r 0#32))
      (IntOp.addi r n) r)
    256#32

/-- The bit at each difference from -2048 to 2047, decided. -/
theorem bit_of_difference : ∀ n < 4096, bit (BitVec.ofNat 32 n - 2048#32) = if n % 2048 < 256 then 1#1 else 0#1 := by
  decide +kernel

/-- The bit at input `k` and unit `j` says whether they are connected. -/
theorem bit_apply (k j : ℕ) (hk : k < 2048) (hj : j < 2048) :
    bit (IntOp.subi (BitVec.ofNat 32 k) (IntOp.muli (BitVec.ofNat 32 j) 1#32))
      = if Band.Connected k j then 1#1 else 0#1 := by
  rw [← bit_of_difference (k + 2048 - j) (by omega)]
  congr 1
  show BitVec.ofNat 32 k - BitVec.ofNat 32 j * 1#32 = _
  rw [BitVec.mul_one]
  apply BitVec.eq_of_toNat_eq
  simp only [BitVec.toNat_sub, BitVec.toNat_ofNat]
  omega

/-- The mask at an index, as an extended real: one on the band and zero off it. -/
theorem mask_apply (i : S2048x2048.Idx) :
    val_main_v12 (F := Ideal) i = if Band.Connected (i 0).val (i 1).val then (1 : EReal) else 0 := by
  have hb : val_main_v11 (F := Ideal) i = if Band.Connected (i 0).val (i 1).val then 1#1 else 0#1 := by
    rw [← bit_apply _ _ (i 0).isLt (i 1).isLt]
    simp only [val_main_v11_apply, val_main_v9_apply, val_main_v10_apply, val_main_c_1_apply, val_main_call0_v12_apply,
      val_main_call0_v14_apply, val_main_call0_v13_apply, val_main_call0_v11_apply, val_main_call0_v10_apply,
      val_main_call0_v9_apply, val_main_call0_c_3_apply, val_main_call0_v8_apply, val_main_call0_v7_apply,
      val_main_call0_c_2_apply, val_main_call0_v6_apply, val_main_call0_v5_apply, val_main_call0_c_1_apply,
      val_main_call0_v4_apply, val_main_call0_v3_apply, val_main_call0_v2_apply, val_main_call0_c_0_apply,
      val_main_call0_v1_apply, val_main_call0_c_apply, val_main_call0_v0_apply, val_main_c_0_apply, val_main_v8_apply,
      val_main_v7_apply, val_main_v6_apply, val_main_v5_apply, val_main_v4_apply, val_main_c_apply, val_main_v3_apply,
      val_main_v2_apply, val_main_v1_apply, val_main_v0_apply]
    rfl
  rw [val_main_v12_apply, hb]
  split
  · show ((((1#1 : BitVec 1).toNat : ℝ)) : EReal) = 1
    simp
  · show ((((0#1 : BitVec 1).toNat : ℝ)) : EReal) = 0
    simp

/-- The reference's result is the layer. -/
theorem result_eq (x : (⟨S4096x2048, .f32⟩ : BufTy).Contents (Elt Ideal)) (w : (⟨S2048x2048, .f32⟩ : BufTy).Contents (Elt Ideal))
    (b : (⟨S2048, .f32⟩ : BufTy).Contents (Elt Ideal)) : val_main_v17 (F := Ideal) x w b = Band.layer x w b := by
  funext i
  rw [val_main_v17_apply, val_main_v14_apply, val_main_v16_apply, val_main_v15_apply]
  unfold Band.layer
  show (_ : EReal) + _ = _ + _
  congr 1
  · refine Finset.sum_congr rfl fun k _ => ?_
    rw [val_main_v13_apply, mask_apply]
    rw [show lidx_main_v14 i k = ix2 (i 0) k from eq_ix2 _, show ridx_main_v14 i k = ix2 k (i 1) from eq_ix2 _]
    rfl
  · exact congrArg b (eq_ix1 _)

end Cert.RefLayer

end
-- ==== Proof.lean ====
/-
  The five claims, put together. The kernel's run leaves the layer of Band.lean in its result array (KernelLayer.lean), the
  reference's run leaves the same layer of the same arguments (RefLayer.lean), so the two results are equal. Nothing is
  asked of the arguments: the equation holds over all extended reals, infinities included, because a weight off the band
  is multiplied by zero on one side and left out on the other, and zero times anything is zero there.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelLayer
public import proofs.«01_k».proof.Proof.RefLayer
public import Idealize.ShloMosaic.Lib.Quiescent
public import Idealize.ShloMosaic.Adequacy
public import Idealize.ShloMosaic.Init

@[expose] public section

noncomputable section

namespace Cert.Proof

open Idealize.ShloMosaic Idealize.SL.Sem

/-- The kernel as written ends with its arguments unchanged and every semaphore at zero. -/
theorem kernel_frame : Cert.quiescent_Kernel (hKernel := Cert.Kernel.Gen.facts) :=
  fun m g _ => Cert.Kernel.Gen.frame m g

/-- So does the kernel read over the extended reals. -/
theorem kernelIdeal_frame : Cert.quiescent_KernelIdeal (hKernelIdeal := Cert.KernelIdeal.Gen.facts) :=
  fun m g _ => Cert.KernelIdeal.Gen.frame m g

/-- So does the reference, which uses no semaphore. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- From equal arguments the kernel and the reference end with equal results. -/
theorem equal_results : Cert.algebraic_KernelIdeal_ReferenceIdeal (hKernelIdeal := Cert.KernelIdeal.Gen.facts)
    (hReferenceIdeal := Cert.ReferenceIdeal.Gen.facts) := by
  intro m g m' g' _ hargs
  refine ⟨fun c => Cert.Band.layer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelLayer.result_eq m c), (h c).2⟩)
      (Cert.KernelIdeal.Value.run_blocks (F := Ideal) m g)
  · refine (θ_run Cert.ReferenceIdeal.defs _ _).mono (fun r h c => ⟨?_, (h c).2⟩)
      (Cert.ReferenceIdeal.Value.run (F := Ideal) m' g')
    refine ((h c).1.trans (Cert.ReferenceIdeal.Read.val_main_v17_eq _ _ _)).trans ?_
    rw [Cert.RefLayer.result_eq, (hargs c).1, (hargs c).2.1, (hargs c).2.2]

/-- Everything claimed. -/
theorem claim : Cert.Claim :=
  ⟨Cert.Kernel.Gen.facts, Cert.KernelIdeal.Gen.facts, Cert.ReferenceIdeal.Gen.facts,
    kernel_frame, kernelIdeal_frame, reference_frame, trivial, equal_results⟩

end Cert.Proof

end
